-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_apart_from_sentinels [hPre_apart_from_sentinels : Cert.Pre_apart_from_sentinels.Facts] (m : (ℓ : Loc Cert.KernelIdeal.nD Cert.KernelIdeal.τ Cert.KernelIdeal.sig) → Buf (Elt Ideal) ℓ) : Prop :=
  ∀ c : Dev Cert.KernelIdeal.nD,
    (Cert.Pre_apart_from_sentinels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_apart_from_sentinels [hPre_apart_from_sentinels : Cert.Pre_apart_from_sentinels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_apart_from_sentinels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_apart_from_sentinels [hKernelIdeal : Cert.KernelIdeal.Facts] [hPre_apart_from_sentinels : Cert.Pre_apart_from_sentinels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_apart_from_sentinels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_apart_from_sentinels [hReferenceIdeal : Cert.ReferenceIdeal.Facts] [hPre_apart_from_sentinels : Cert.Pre_apart_from_sentinels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_apart_from_sentinels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_apart_from_sentinels [hKernelIdeal : Cert.KernelIdeal.Facts] [hReferenceIdeal : Cert.ReferenceIdeal.Facts] [hPre_apart_from_sentinels : Cert.Pre_apart_from_sentinels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_apart_from_sentinels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_apart_from_sentinels : Cert.Pre_apart_from_sentinels.Facts),
    quiescent_Kernel (hKernel := hKernel)
    ∧ quiescent_KernelIdeal (hKernelIdeal := hKernelIdeal)
    ∧ quiescent_KernelIdeal_pre_apart_from_sentinels (hKernelIdeal := hKernelIdeal) (hPre_apart_from_sentinels := hPre_apart_from_sentinels)
    ∧ quiescent_ReferenceIdeal (hReferenceIdeal := hReferenceIdeal)
    ∧ quiescent_ReferenceIdeal_pre_apart_from_sentinels (hReferenceIdeal := hReferenceIdeal) (hPre_apart_from_sentinels := hPre_apart_from_sentinels)
    ∧ preserves_Kernel_KernelIdeal
    ∧ algebraic_KernelIdeal_ReferenceIdeal_pre_apart_from_sentinels (hKernelIdeal := hKernelIdeal) (hReferenceIdeal := hReferenceIdeal) (hPre_apart_from_sentinels := hPre_apart_from_sentinels)
-- ==== Pre_apart_from_sentinels.lean ====
abbrev S16x512x20x9 : Shape := ⟨4, ![16, 512, 20, 9]⟩
abbrev S16x512x20 : Shape := ⟨3, ![16, 512, 20]⟩
abbrev S9x256 : Shape := ⟨2, ![9, 256]⟩
abbrev S256 : Shape := ⟨1, ![256]⟩
abbrev S256x256 : Shape := ⟨2, ![256, 256]⟩
abbrev S16x512x20x256 : Shape := ⟨4, ![16, 512, 20, 256]⟩
abbrev S1x1x1x256 : Shape := ⟨4, ![1, 1, 1, 256]⟩
abbrev S_ : Shape := ⟨0, ![]⟩
abbrev S16x512x20x1 : Shape := ⟨4, ![16, 512, 20, 1]⟩

class Facts : Prop where
  bcast_S256_S1x1x1x256_3 : S256.BroadcastsInDim S1x1x1x256 (![3] : Fin 1 → Fin S1x1x1x256.rank)
  bcast_S1x1x1x256_S16x512x20x256_0_1_2_3 : S1x1x1x256.BroadcastsInDim S16x512x20x256 (![0, 1, 2, 3] : Fin 4 → Fin S16x512x20x256.rank)
  bcast_S_S16x512x20x256 : S_.BroadcastsInDim S16x512x20x256 (![] : Fin 0 → Fin S16x512x20x256.rank)
  bcast_S16x512x20_S16x512x20x1_0_1_2 : S16x512x20.BroadcastsInDim S16x512x20x1 (![0, 1, 2] : Fin 3 → Fin S16x512x20x1.rank)
  bcast_S16x512x20x1_S16x512x20x256_0_1_2_3 : S16x512x20x1.BroadcastsInDim S16x512x20x256 (![0, 1, 2, 3] : Fin 4 → Fin S16x512x20x256.rank)
  dot_S16x512x20x9_S9x256_S16x512x20x256_3_0_012_1_n_n_wf : DotDims.WF S16x512x20x9 S9x256 S16x512x20x256 [3] [0] [0, 1, 2] [1] [] []
  dot_S16x512x20x256_S256x256_S16x512x20x256_3_0_012_1_n_n_wf : DotDims.WF S16x512x20x256 S256x256 S16x512x20x256 [3] [0] [0, 1, 2] [1] [] []

variable [Facts]

def dot_S16x512x20x9_S9x256_S16x512x20x256_3_0_012_1_n_n : DotDims S16x512x20x9 S9x256 S16x512x20x256 where
  lhsContracting := [3]
  rhsContracting := [0]
  lhsNonContracting := [0, 1, 2]
  rhsNonContracting := [1]
  lhsBatch := []
  rhsBatch := []
  wf := dot_S16x512x20x9_S9x256_S16x512x20x256_3_0_012_1_n_n_wf
def dot_S16x512x20x256_S256x256_S16x512x20x256_3_0_012_1_n_n : DotDims S16x512x20x256 S256x256 S16x512x20x256 where
  lhsContracting := [3]
  rhsContracting := [0]
  lhsNonContracting := [0, 1, 2]
  rhsNonContracting := [1]
  lhsBatch := []
  rhsBatch := []
  wf := dot_S16x512x20x256_S256x256_S16x512x20x256_3_0_012_1_n_n_wf
def fn_part1 {F : FTy → Type} [FloatOps F] (main_v16 : IVec S16x512x20x256 1) (main_v17 : IVec S16x512x20x1 1) (main_v19 : IVec S16x512x20x256 1) : IVec S16x512x20x256 1 :=
  let main_v20 : IVec S16x512x20x1 1 := noti main_v17
  let main_v21 : IVec S16x512x20x256 1 := broadcastInDim S16x512x20x256 ![0, 1, 2, 3] bcast_S16x512x20x1_S16x512x20x256_0_1_2_3 main_v20
  let main_v22 : IVec S16x512x20x256 1 := andi main_v21 main_v16
  let main_v23 : IVec S16x512x20x256 1 := ori main_v19 main_v22
  main_v23

def fn {F : FTy → Type} [FloatOps F] (main_arg0 : FVec F S16x512x20x9 .f32) (main_arg1 : IVec S16x512x20 1) (main_arg2 : FVec F S9x256 .f32) (main_arg3 : FVec F S256 .f32) (main_arg4 : FVec F S256x256 .f32) (main_arg5 : FVec F S256 .f32) : IVec S16x512x20x256 1 :=
  let main_v0 : FVec F S16x512x20x256 .f32 := (fun l r => Host.dotGeneral dot_S16x512x20x9_S9x256_S16x512x20x256_3_0_012_1_n_n none l r) main_arg0 main_arg2
  let main_v1 : FVec F S1x1x1x256 .f32 := broadcastInDim S1x1x1x256 ![3] bcast_S256_S1x1x1x256_3 main_arg3
  let main_v2 : FVec F S16x512x20x256 .f32 := broadcastInDim S16x512x20x256 ![0, 1, 2, 3] bcast_S1x1x1x256_S16x512x20x256_0_1_2_3 main_v1
  let main_v3 : FVec F S16x512x20x256 .f32 := addf main_v0 main_v2
  let main_cst : FVec F S_ .f32 := constant S_ .f32 0x00000000#32
  let main_v4 : FVec F S16x512x20x256 .f32 := broadcastInDim S16x512x20x256 ![] bcast_S_S16x512x20x256 main_cst
  let main_v5 : FVec F S16x512x20x256 .f32 := maximumf main_v3 main_v4
  let main_v6 : FVec F S16x512x20x256 .f32 := (fun l r => Host.dotGeneral dot_S16x512x20x256_S256x256_S16x512x20x256_3_0_012_1_n_n none l r) main_v5 main_arg4
  let main_cst_0 : FVec F S_ .f32 := constant S_ .f32 0xCE000000#32
  let main_v7 : FVec F S16x512x20x256 .f32 := broadcastInDim S16x512x20x256 ![] bcast_S_S16x512x20x256 main_cst_0
  let main_v8 : IVec S16x512x20x256 1 := cmpf .oge main_v6 main_v7
  let main_v9 : FVec F S1x1x1x256 .f32 := broadcastInDim S1x1x1x256 ![3] bcast_S256_S1x1x1x256_3 main_arg5
  let main_v10 : FVec F S16x512x20x256 .f32 := broadcastInDim S16x512x20x256 ![0, 1, 2, 3] bcast_S1x1x1x256_S16x512x20x256_0_1_2_3 main_v9
  let main_v11 : FVec F S16x512x20x256 .f32 := addf main_v6 main_v10
  let main_cst_1 : FVec F S_ .f32 := constant S_ .f32 0xCE6E6B28#32
  let main_v12 : FVec F S16x512x20x256 .f32 := broadcastInDim S16x512x20x256 ![] bcast_S_S16x512x20x256 main_cst_1
  let main_v13 : IVec S16x512x20x256 1 := cmpf .ogt main_v11 main_v12
  let main_v14 : IVec S16x512x20x256 1 := andi main_v8 main_v13
  let main_cst_2 : FVec F S_ .f32 := constant S_ .f32 0x4E000000#32
  let main_v15 : FVec F S16x512x20x256 .f32 := broadcastInDim S16x512x20x256 ![] bcast_S_S16x512x20x256 main_cst_2
  let main_v16 : IVec S16x512x20x256 1 := cmpf .olt main_v6 main_v15
  let main_v17 : IVec S16x512x20x1 1 := broadcastInDim S16x512x20x1 ![0, 1, 2] bcast_S16x512x20_S16x512x20x1_0_1_2 main_arg1
  let main_v18 : IVec S16x512x20x256 1 := broadcastInDim S16x512x20x256 ![0, 1, 2, 3] bcast_S16x512x20x1_S16x512x20x256_0_1_2_3 main_v17
  let main_v19 : IVec S16x512x20x256 1 := andi main_v18 main_v14
  fn_part1 (F := F) main_v16 main_v17 main_v19
-- ==== Kernel.lean ====
abbrev S16x512x20x9 : Shape := ⟨4, ![16, 512, 20, 9]⟩
abbrev S16x512x20 : Shape := ⟨3, ![16, 512, 20]⟩
abbrev S9x256 : Shape := ⟨2, ![9, 256]⟩
abbrev S256 : Shape := ⟨1, ![256]⟩
abbrev S256x256 : Shape := ⟨2, ![256, 256]⟩
abbrev S16x512x180 : Shape := ⟨3, ![16, 512, 180]⟩
abbrev S1x256 : Shape := ⟨2, ![1, 256]⟩
abbrev S16x512x256 : Shape := ⟨3, ![16, 512, 256]⟩
abbrev S4x512x180 : Shape := ⟨3, ![4, 512, 180]⟩
abbrev S4x512x20 : Shape := ⟨3, ![4, 512, 20]⟩
abbrev S4x512x256 : Shape := ⟨3, ![4, 512, 256]⟩
abbrev S2048x180 : Shape := ⟨2, ![2048, 180]⟩
abbrev S2048x20 : Shape := ⟨2, ![2048, 20]⟩
abbrev S2048x9 : Shape := ⟨2, ![2048, 9]⟩
abbrev S2048x256 : Shape := ⟨2, ![2048, 256]⟩
abbrev S2048x1 : Shape := ⟨2, ![2048, 1]⟩

abbrev nBuf : Space → Nat
  | .hbm => 11
  | .vmem => 10
  | .smem => 0
  | _ => 0

abbrev bufTy : (tb : Table) → Fin (tcTables nBuf tb) → BufTy
  | .hbm, ⟨0, _⟩ => ⟨S16x512x20x9, .f32⟩
  | .hbm, ⟨1, _⟩ => ⟨S16x512x20, .i1⟩
  | .hbm, ⟨2, _⟩ => ⟨S9x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S16x512x180, .f32⟩
  | .hbm, ⟨7, _⟩ => ⟨S1x256, .f32⟩
  | .hbm, ⟨8, _⟩ => ⟨S1x256, .f32⟩
  | .hbm, ⟨9, _⟩ => ⟨S16x512x20, .i32⟩
  | .hbm, ⟨10, _⟩ => ⟨S16x512x256, .f32⟩
  | .local _ .vmem, ⟨0, _⟩ => ⟨S4x512x180, .f32⟩
  | .local _ .vmem, ⟨1, _⟩ => ⟨S4x512x180, .f32⟩
  | .local _ .vmem, ⟨2, _⟩ => ⟨S4x512x20, .i32⟩
  | .local _ .vmem, ⟨3, _⟩ => ⟨S4x512x20, .i32⟩
  | .local _ .vmem, ⟨4, _⟩ => ⟨S9x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S4x512x256, .f32⟩
  | .local _ .vmem, ⟨9, _⟩ => ⟨S4x512x256, .f32⟩
  | _, _ => ⟨S16x512x20x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x180 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x20 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16x512x20x9 : Shape := ⟨4, ![16, 512, 20, 9]⟩
abbrev S16x512x20 : Shape := ⟨3, ![16, 512, 20]⟩
abbrev S9x256 : Shape := ⟨2, ![9, 256]⟩
abbrev S256 : Shape := ⟨1, ![256]⟩
abbrev S256x256 : Shape := ⟨2, ![256, 256]⟩
abbrev S16x512x20x256 : Shape := ⟨4, ![16, 512, 20, 256]⟩
abbrev S1x1x1x256 : Shape := ⟨4, ![1, 1, 1, 256]⟩
abbrev S_ : Shape := ⟨0, ![]⟩
abbrev S16x512x20x1 : Shape := ⟨4, ![16, 512, 20, 1]⟩
abbrev S16x512x256 : Shape := ⟨3, ![16, 512, 256]⟩

abbrev nBuf : Space → Nat
  | .hbm => 30
  | .vmem => 0
  | .smem => 0
  | _ => 0

abbrev bufTy : (tb : Table) → Fin (tcTables nBuf tb) → BufTy
  | .hbm, ⟨0, _⟩ => ⟨S16x512x20x9, .f32⟩
  | .hbm, ⟨1, _⟩ => ⟨S16x512x20, .i1⟩
  | .hbm, ⟨2, _⟩ => ⟨S9x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S16x512x20x256, .f32⟩
  | .hbm, ⟨7, _⟩ => ⟨S1x1x1x256, .f32⟩
  | .hbm, ⟨8, _⟩ => ⟨S16x512x20x256, .f32⟩
  | .hbm, ⟨9, _⟩ => ⟨S16x512x20x256, .f32⟩
  | .hbm, ⟨10, _⟩ => ⟨S_, .f32⟩
  | .hbm, ⟨11, _⟩ => ⟨S16x512x20x256, .f32⟩
  | .hbm, ⟨12, _⟩ => ⟨S16x512x20x256, .f32⟩
  | .hbm, ⟨13, _⟩ => ⟨S16x512x20x256, .f32⟩
  | .hbm, ⟨14, _⟩ => ⟨S1x1x1x256, .f32⟩
  | .hbm, ⟨15, _⟩ => ⟨S16x512x20x256, .f32⟩
  | .hbm, ⟨16, _⟩ => ⟨S16x512x20x256, .f32⟩
  | .hbm, ⟨17, _⟩ => ⟨S16x512x20x1, .i1⟩
  | .hbm, ⟨18, _⟩ => ⟨S_, .f32⟩
  | .hbm, ⟨19, _⟩ => ⟨S16x512x20x256, .i1⟩
  | .hbm, ⟨20, _⟩ => ⟨S16x512x20x256, .f32⟩
  | .hbm, ⟨21, _⟩ => ⟨S16x512x20x256, .f32⟩
  | .hbm, ⟨22, _⟩ => ⟨S_, .f32⟩
  | .hbm, ⟨23, _⟩ => ⟨S16x512x256, .f32⟩
  | .hbm, ⟨24, _⟩ => ⟨S_, .f32⟩
  | .hbm, ⟨25, _⟩ => ⟨S16x512x256, .f32⟩
  | .hbm, ⟨26, _⟩ => ⟨S16x512x256, .i1⟩
  | .hbm, ⟨27, _⟩ => ⟨S_, .f32⟩
  | .hbm, ⟨28, _⟩ => ⟨S16x512x256, .f32⟩
  | .hbm, ⟨29, _⟩ => ⟨S16x512x256, .f32⟩
  | _, _ => ⟨S16x512x20x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call1_v0 : Ref sig .tc := ⟨.hbm, 28, rfl⟩
abbrev main_v15 : Ref sig .tc := ⟨.hbm, 29, rfl⟩

abbrev nD : Nat := 1
abbrev τ : Topo := Topo.v7x

variable {F : FTy → Type} [FloatOps F]
-- ==== Proof.Pooling.lean ====
/- The mathematics of the pooling, with no program in sight: a running maximum of shifted candidates and the maximum of
   the candidates replaced where dropped give the same pooled value, while the sentinels stay apart from the values. -/
module

public import Idealize.ShloMosaic.Lib.Pointwise

@[expose] public section

noncomputable section

namespace Cert.Pooling

/-- The running maximum of `n + 1` values, taken from the first to the last. -/
def runMax : (n : ℕ) → (Fin (n + 1) → EReal) → EReal
  | 0, C => C 0
  | n + 1, C => max (runMax n fun i => C i.castSucc) (C (Fin.last (n + 1)))

/-- The running maximum is one of the values and bounds them all. -/
theorem runMax_isGreatest : ∀ (n : ℕ) (C : Fin (n + 1) → EReal), IsGreatest (Set.range C) (runMax n C)
  | 0, C => ⟨⟨0, rfl⟩, by rintro _ ⟨i, rfl⟩; rw [Fin.fin_one_eq_zero i]; exact le_rfl⟩
  | n + 1, C => by
    obtain ⟨⟨i, hi⟩, hb⟩ := runMax_isGreatest n fun i => C i.castSucc
    refine ⟨?_, ?_⟩
    · rcases max_choice (runMax n fun i => C i.castSucc) (C (Fin.last (n + 1))) with h | h
      · exact ⟨i.castSucc, by rw [runMax, h]; exact hi⟩
      · exact ⟨Fin.last (n + 1), by rw [runMax, h]⟩
    · rintro _ ⟨j, rfl⟩
      refine Fin.lastCases ?_ (fun j => ?_) j
      · exact le_max_right _ _
      · exact (hb ⟨j, rfl⟩).trans (le_max_left _ _)

/-- Folding the maximum from the least extended real over finitely many values, at least one, gives the greatest. -/
theorem fold_isGreatest {ι : Type*} [Fintype ι] [Nonempty ι] (C : ι → EReal) :
    IsGreatest (Set.range C) (Finset.univ.fold max ⊥ C) := by
  have h : Finset.univ.fold max ⊥ C = Finset.univ.sup C := rfl
  rw [h]
  refine ⟨?_, ?_⟩
  · obtain ⟨i, -, hi⟩ := Finset.exists_mem_eq_sup Finset.univ Finset.univ_nonempty C
    exact ⟨i, hi.symm⟩
  · rintro _ ⟨i, rfl⟩
    exact Finset.le_sup (Finset.mem_univ i)

/-- Pooling by shifting agrees with pooling by replacing. `g n` is candidate `n` before its bias `b`, `k n` says whether
    it is kept. Shifting adds `-2^30` to the dropped candidates, takes the maximum `A`, answers `0` below `-2^29` and
    `A + b` otherwise. Replacing puts `-10^9` for the dropped candidates, takes the maximum `M` with the bias added, and
    answers `0` at `-10^9` and `M` otherwise. -/
theorem pool_eq {ι : Type*} (k : ι → Prop) [DecidablePred k] (g : ι → EReal) (b A M : EReal)
    (hA : IsGreatest (Set.range fun n => g n + if k n then 0 else ((-1073741824 : ℝ) : EReal)) A)
    (hM : IsGreatest (Set.range fun n => if k n then g n + b else ((-1000000000 : ℝ) : EReal)) M)
    (hk : ∀ n, k n → ((-536870912 : ℝ) : EReal) ≤ g n ∧ ((-1000000000 : ℝ) : EReal) < g n + b)
    (hd : ∀ n, ¬k n → g n < ((536870912 : ℝ) : EReal)) :
    (if A < ((-536870912 : ℝ) : EReal) then 0 else A + b) = if M = ((-1000000000 : ℝ) : EReal) then 0 else M := by
  have hlow : ∀ n, ¬k n → g n + ((-1073741824 : ℝ) : EReal) < ((-536870912 : ℝ) : EReal) := fun n h => by
    have := EReal.add_lt_add_right_coe (hd n h) (-1073741824)
    rw [← EReal.coe_add] at this
    norm_num at this ⊢
    exact this
  by_cases hex : ∃ n, k n
  · obtain ⟨n₁, h₁⟩ := hex
    obtain ⟨⟨n₀, h₀⟩, hub⟩ := hA
    have hA₁ : g n₁ ≤ A := by simpa [h₁] using hub ⟨n₁, rfl⟩
    have hge : ((-536870912 : ℝ) : EReal) ≤ A := (hk n₁ h₁).1.trans hA₁
    have hk₀ : k n₀ := by
      by_contra hn
      have := hlow n₀ hn
      simp only [hn, if_false] at h₀
      rw [h₀] at this
      exact absurd this (not_lt.mpr hge)
    have hA₀ : A = g n₀ := by simpa [hk₀] using h₀.symm
    have hM₀ : M = A + b := by
      obtain ⟨⟨n₂, h₂⟩, hubM⟩ := hM
      have hge₀ : A + b ≤ M := by
        have := hubM ⟨n₀, rfl⟩
        simpa [hk₀, ← hA₀] using this
      refine le_antisymm ?_ hge₀
      by_cases hk₂ : k n₂
      · have : g n₂ ≤ A := by simpa [hk₂] using hub ⟨n₂, rfl⟩
        simp only [hk₂, if_true] at h₂
        rw [← h₂]
        exact add_le_add_left this b
      · simp only [hk₂, if_false] at h₂
        rw [← h₂, hA₀]
        exact (hk n₀ hk₀).2.le
    have hgt : ((-1000000000 : ℝ) : EReal) < M := by rw [hM₀, hA₀]; exact (hk n₀ hk₀).2
    rw [if_neg (not_lt.mpr hge), if_neg hgt.ne', hM₀]
  · push Not at hex
    obtain ⟨⟨n₀, h₀⟩, -⟩ := hA
    obtain ⟨⟨n₂, h₂⟩, -⟩ := hM
    simp only [hex, if_false] at h₀ h₂
    rw [if_pos (h₀ ▸ hlow n₀ (hex n₀)), if_pos h₂.symm]

end Cert.Pooling

end
-- ==== Proof.Block.lean ====
/- What the kernel's body stores for one block, read at a row and a lane: the pooled value of the row's twenty candidates. -/
module

public import proofs.«01_k».proof.Proof.Gen.KernelIdeal.Skeleton
public import proofs.«01_k».proof.Proof.Pooling
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe Idealize.SL.Sem
open Cert.Pooling

/-- Nine lanes of features can be cut out of the 180 at each of the twenty points. -/
theorem slices_x : ∀ j : Fin 20, S2048x180.Slices ![0, 9 * (j : ℕ)] S2048x9 := by decide

/-- One lane of the shift can be cut out of the twenty at each of the twenty points. -/
theorem slices_s : ∀ j : Fin 20, S2048x20.Slices ![0, (j : ℕ)] S2048x1 := by decide

/-- The two-layer network on a block of 2048 rows of nine features, as the body composes it, without the last bias. -/
def layers (v16 : FVec Ideal S2048x9 .f32) (v10 : FVec Ideal S9x256 .bf16) (v12 : FVec Ideal S256x256 .bf16)
    (v15 : FVec Ideal S1x256 .bf16) : FVec Ideal S2048x256 .f32 :=
  matmul dot_S2048x256_S256x256_S2048x256_1_0_0_1_n_n none
    (maximumf
      (addf
        (truncf .bf16 (matmul dot_S2048x9_S9x256_S2048x256_1_0_0_1_n_n none (truncf .bf16 v16 bitsLt_bf16_f32) v10
          (constant S2048x256 .f32 0x00000000#32)) bitsLt_bf16_f32)
        (broadcastTo S2048x256 v15 broadcasts_S1x256_S2048x256))
      (broadcast S2048x256 (Scalar.ofBits .bf16 0x0000#16)))
    v12 (constant S2048x256 .f32 0x00000000#32)

/-- Candidate `j` of every row: the network on the row's point `j`, plus the shift of that point. -/
def candidate (v2 : FVec Ideal S2048x180 .f32) (v8 : FVec Ideal S2048x20 .f32) (v10 : FVec Ideal S9x256 .bf16)
    (v12 : FVec Ideal S256x256 .bf16) (v15 : FVec Ideal S1x256 .bf16) (j : Fin 20) : FVec Ideal S2048x256 .f32 :=
  addf (layers (extractStridedSlice S2048x9 ![0, 9 * (j : ℕ)] v2 (slices_x j)) v10 v12 v15)
    (broadcastTo S2048x256 (extractStridedSlice S2048x1 ![0, (j : ℕ)] v8 (slices_s j)) broadcasts_S2048x1_S2048x256)

/-- The network at a row and a lane. -/
theorem layers_at (v16 : FVec Ideal S2048x9 .f32) (v10 : FVec Ideal S9x256 .bf16) (v12 : FVec Ideal S256x256 .bf16)
    (v15 : FVec Ideal S1x256 .bf16) (r : Fin 2048) (h : Fin 256) :
    layers v16 v10 v12 v15 (ix2 r h)
      = ∑ k : Fin 256, max ((∑ i : Fin 9, v16 (ix2 r i) * v10 (ix2 i k)) + v15 (ix2 0 k)) 0 * v12 (ix2 k h) := by
  pointwise [layers]

/-- Candidate `j` at a row and a lane. -/
theorem candidate_at (v2 : FVec Ideal S2048x180 .f32) (v8 : FVec Ideal S2048x20 .f32) (v10 : FVec Ideal S9x256 .bf16)
    (v12 : FVec Ideal S256x256 .bf16) (v15 : FVec Ideal S1x256 .bf16) (j : Fin 20) (r : Fin 2048) (h : Fin 256) :
    candidate v2 v8 v10 v12 v15 j (ix2 r h)
      = (∑ k : Fin 256, max ((∑ i : Fin 9, v2 (ix2 r ⟨9 * (j : ℕ) + i, by omega⟩) * v10 (ix2 i k)) + v15 (ix2 0 k)) 0
          * v12 (ix2 k h)) + v8 (ix2 r j) := by
  pointwise [candidate, layers_at]

/-- The running maximum over the points that the body has taken by its fifth part. -/
def before (v0 : FVec Ideal S4x512x180 .f32) (v3 : IVec S4x512x20 32) (v9 : FVec Ideal S9x256 .f32)
    (v11 : FVec Ideal S256x256 .f32) (v13 : FVec Ideal S1x256 .f32) : FVec Ideal S2048x256 .f32 :=
  k0_pay17 (F := Ideal) (k0_pay2 v0) (k0_pay3 v3) (k0_pay4 v9) (k0_pay5 v11) (k0_pay6 v13)
    (k0_pay15 (k0_pay2 v0) (k0_pay3 v3) (k0_pay4 v9) (k0_pay5 v11) (k0_pay6 v13)
      (k0_pay13 (k0_pay2 v0) (k0_pay3 v3) (k0_pay4 v9) (k0_pay5 v11) (k0_pay6 v13)
        (k0_pay10 (k0_pay2 v0) (k0_pay3 v3) (k0_pay4 v9) (k0_pay5 v11) (k0_pay6 v13)
          (k0_pay7 v0 v3 v9 v11 v13) (k0_pay8 v0 v9 v11 v13) (k0_pay9 v3))
        (k0_pay11 (k0_pay2 v0) (k0_pay4 v9) (k0_pay6 v13)) k0_pay12)
      (k0_pay14 (k0_pay2 v0) (k0_pay4 v9)))
    (k0_pay16 (k0_pay2 v0))

/-- The running maximum over all the points, as the body composes it. -/
def total (v0 : FVec Ideal S4x512x180 .f32) (v3 : IVec S4x512x20 32) (v9 : FVec Ideal S9x256 .f32)
    (v11 : FVec Ideal S256x256 .f32) (v13 : FVec Ideal S1x256 .f32) : FVec Ideal S2048x256 .f32 :=
  k0_pay20 (F := Ideal) (k0_pay2 v0) (k0_pay3 v3) (k0_pay4 v9) (k0_pay5 v11) (k0_pay6 v13) (before v0 v3 v9 v11 v13)
    (k0_pay18 (k0_pay2 v0) (k0_pay4 v9) (k0_pay5 v11) (k0_pay6 v13)) (k0_pay19 (k0_pay3 v3))

/-- The block that the body stores, as it composes it. -/
def stored (v0 : FVec Ideal S4x512x180 .f32) (v3 : IVec S4x512x20 32) (v9 : FVec Ideal S9x256 .f32)
    (v11 : FVec Ideal S256x256 .f32) (v13 v277 : FVec Ideal S1x256 .f32) : FVec Ideal S4x512x256 .f32 :=
  k0_pay1 (F := Ideal)
    (k0_pay21 (k0_pay2 v0) (k0_pay3 v3) (k0_pay4 v9) (k0_pay5 v11) (k0_pay6 v13) (before v0 v3 v9 v11 v13)
      (k0_pay18 (k0_pay2 v0) (k0_pay4 v9) (k0_pay5 v11) (k0_pay6 v13)) (k0_pay19 (k0_pay3 v3)))
    (k0_pay22 (k0_pay2 v0) (k0_pay3 v3) (k0_pay4 v9) (k0_pay5 v11) (k0_pay6 v13) (before v0 v3 v9 v11 v13)
      (k0_pay18 (k0_pay2 v0) (k0_pay4 v9) (k0_pay5 v11) (k0_pay6 v13)) (k0_pay19 (k0_pay3 v3)) v277)

/-- The body's maximum at an index is the running maximum of the twenty candidates there. -/
theorem total_eq (v0 : FVec Ideal S4x512x180 .f32) (v3 : IVec S4x512x20 32) (v9 : FVec Ideal S9x256 .f32)
    (v11 : FVec Ideal S256x256 .f32) (v13 : FVec Ideal S1x256 .f32) (i : S2048x256.Idx) :
    total v0 v3 v9 v11 v13 i
      = runMax 19 fun j => candidate (k0_pay2 v0) (k0_pay3 v3) (k0_pay4 v9) (k0_pay5 v11) (k0_pay6 v13) j i := by
  rfl

/-- The product of candidate `j` of row `(a, p)` at lane `h`, before any bias or shift, over the loaded blocks. -/
def product (v0 : FVec Ideal S4x512x180 .f32) (v9 : FVec Ideal S9x256 .f32) (v11 : FVec Ideal S256x256 .f32)
    (v13 : FVec Ideal S1x256 .f32) (a : Fin 4) (p : Fin 512) (h : Fin 256) (j : Fin 20) : EReal :=
  ∑ k : Fin 256, max ((∑ i : Fin 9, v0 (ix3 a p ⟨9 * (j : ℕ) + i, by omega⟩) * v9 (ix2 i k)) + v13 (ix2 0 k)) 0 * v11 (ix2 k h)

/-- Candidate `j` of row `(a, p)` at lane `h` over the loaded blocks. -/
theorem candidate_block (v0 : FVec Ideal S4x512x180 .f32) (v3 : IVec S4x512x20 32) (v9 : FVec Ideal S9x256 .f32)
    (v11 : FVec Ideal S256x256 .f32) (v13 : FVec Ideal S1x256 .f32) (a : Fin 4) (p : Fin 512) (h : Fin 256) (j : Fin 20) :
    candidate (k0_pay2 v0) (k0_pay3 v3) (k0_pay4 v9) (k0_pay5 v11) (k0_pay6 v13) j (ix2 ⟨(a : ℕ) * 512 + p, by omega⟩ h)
      = product v0 v9 v11 v13 a p h j
        + if v3 (ix3 a p j) ≠ 0#32 then 0 else Ideal.ofBits .f32 0xCE800000#32 := by
  rw [candidate_at]
  pointwise [k0_pay2, k0_pay3, k0_pay4, k0_pay5, k0_pay6, product]
  by_cases hm : v3 (ix3 a p j) = 0#32
  · simp [Scalar.select, IntOp.cmpi, hm]
  · have hb : (v3 (ix3 a p j) != 0#32) = true := bne_iff_ne.mpr hm
    simp [Scalar.select, IntOp.cmpi, hm, hb]

/-- The stored block at a row and a lane. -/
theorem stored_at (v0 : FVec Ideal S4x512x180 .f32) (v3 : IVec S4x512x20 32) (v9 : FVec Ideal S9x256 .f32)
    (v11 : FVec Ideal S256x256 .f32) (v13 v277 : FVec Ideal S1x256 .f32) (a : Fin 4) (p : Fin 512) (h : Fin 256) :
    stored v0 v3 v9 v11 v13 v277 (ix3 a p h)
      = if total v0 v3 v9 v11 v13 (ix2 ⟨(a : ℕ) * 512 + p, by omega⟩ h) < Ideal.ofBits .f32 0xCE000000#32 then 0
        else total v0 v3 v9 v11 v13 (ix2 ⟨(a : ℕ) * 512 + p, by omega⟩ h) + v277 (ix2 0 h) := by
  pointwise [stored, k0_pay1, k0_pay21, k0_pay22]
  rfl

end Cert.KernelIdeal.Block

end
-- ==== Proof.Literals.lean ====
/- The float literals of the three programs, as extended reals. -/
module

public import Idealize.ShloMosaic.Lib.Pointwise

@[expose] public section

noncomputable section

namespace Cert.Literals

open Idealize.ShloMosaic

/-- The kernel's shift of a dropped candidate: `-2^30`. -/
theorem shift_eq : Ideal.ofBits .f32 0xCE800000#32 = ((-1073741824 : ℝ) : EReal) := by
  simp [Ideal.ofBits, Ideal.ieee, -EReal.coe_mul]; norm_num

/-- The kernel's bound below which nothing was kept: `-2^29`. -/
theorem bound_eq : Ideal.ofBits .f32 0xCE000000#32 = ((-536870912 : ℝ) : EReal) := by
  simp [Ideal.ofBits, Ideal.ieee, -EReal.coe_mul]; norm_num

/-- The precondition's bound on dropped candidates: `2^29`. -/
theorem top_eq : Ideal.ofBits .f32 0x4E000000#32 = ((536870912 : ℝ) : EReal) := by
  simp [Ideal.ofBits, Ideal.ieee, -EReal.coe_mul]; norm_num

/-- The reference's value in place of a dropped candidate: `-10^9`. -/
theorem neg_eq : Ideal.ofBits .f32 0xCE6E6B28#32 = ((-1000000000 : ℝ) : EReal) := by
  simp [Ideal.ofBits, Ideal.ieee, -EReal.coe_mul]; norm_num

/-- The reference's maximum starts from minus infinity. -/
theorem bot_eq : Ideal.ofBits .f32 0xFF800000#32 = ⊥ := by
  simp [Ideal.ofBits, Ideal.ieee]

end Cert.Literals

end
-- ==== Proof.Pool.lean ====
/- The reference's result and the precondition, read at an index, over the six argument arrays. -/
module

public import proofs.«01_k».proof.Proof.Gen.ReferenceIdeal
public import proofs.«01_k».proof.Proof.Gen.Pre_apart_from_sentinels
public import proofs.«01_k».proof.Proof.Pooling
public import proofs.«01_k».proof.Proof.Literals
public import Idealize.ShloMosaic.Lib.Pointwise

@[expose] public section

set_option maxRecDepth 16384

noncomputable section

namespace Cert.ReferenceIdeal.Pool

open Cert.ReferenceIdeal Cert.ReferenceIdeal.Gen Idealize.ShloMosaic Idealize.ShloMosaic.TcCoe Idealize.SL.Sem
open Cert.Pooling

/-- The two-layer network at point `n` of polyline `(b, p)` and lane `h`, without its last bias. -/
def network (X : FVec Ideal S16x512x20x9 .f32) (W1 : FVec Ideal S9x256 .f32) (b1 : FVec Ideal S256 .f32)
    (W2 : FVec Ideal S256x256 .f32) (b : Fin 16) (p : Fin 512) (h : Fin 256) (n : Fin 20) : EReal :=
  ∑ k : Fin 256, max ((∑ i : Fin 9, X (ix4 b p n i) * W1 (ix2 i k)) + b1 (ix1 k)) 0 * W2 (ix2 k h)

/-- The reference's maximum over the points, as it composes it. -/
def maxima (X : FVec Ideal S16x512x20x9 .f32) (K : IVec S16x512x20 1) (W1 : FVec Ideal S9x256 .f32)
    (b1 : FVec Ideal S256 .f32) (W2 : FVec Ideal S256x256 .f32) (b2 : FVec Ideal S256 .f32) :
    FVec Ideal S16x512x256 .f32 :=
  Host.reduce FloatOps.maximumf
    (select
      (broadcastInDim S16x512x20x256 ![0, 1, 2, 3] bcast_S16x512x20x1_S16x512x20x256_0_1_2_3
        (broadcastInDim S16x512x20x1 ![0, 1, 2] bcast_S16x512x20_S16x512x20x1_0_1_2 K))
      (addf
        (Host.dotGeneral dot_S16x512x20x256_S256x256_S16x512x20x256_3_0_012_1_n_n none
          (maximumf
            (addf (Host.dotGeneral dot_S16x512x20x9_S9x256_S16x512x20x256_3_0_012_1_n_n none X W1)
              (broadcastInDim S16x512x20x256 ![0, 1, 2, 3] bcast_S1x1x1x256_S16x512x20x256_0_1_2_3
                (broadcastInDim S1x1x1x256 ![3] bcast_S256_S1x1x1x256_3 b1)))
            (broadcastInDim S16x512x20x256 ![] bcast_S_S16x512x20x256 (constant S_ .f32 0x00000000#32))) W2)
        (broadcastInDim S16x512x20x256 ![0, 1, 2, 3] bcast_S1x1x1x256_S16x512x20x256_0_1_2_3
          (broadcastInDim S1x1x1x256 ![3] bcast_S256_S1x1x1x256_3 b2)))
      (broadcastInDim S16x512x20x256 ![] bcast_S_S16x512x20x256 (constant S_ .f32 0xCE6E6B28#32)))
    (constant S_ .f32 0xFF800000#32) reducesTo_S16x512x20x256_S16x512x256_d2 h_S_

/-- Zero where a vector holds the replacement value, otherwise the vector, as the reference composes it. -/
def cleared (M : FVec Ideal S16x512x256 .f32) : FVec Ideal S16x512x256 .f32 :=
  select (cmpf .oeq M (broadcastInDim S16x512x256 ![] bcast_S_S16x512x256 (constant S_ .f32 0xCE6E6B28#32)))
    (broadcastInDim S16x512x256 ![] bcast_S_S16x512x256 (constant S_ .f32 0x00000000#32)) M

/-- The reference's result, as it composes it. -/
def REF (X : FVec Ideal S16x512x20x9 .f32) (K : IVec S16x512x20 1) (W1 : FVec Ideal S9x256 .f32)
    (b1 : FVec Ideal S256 .f32) (W2 : FVec Ideal S256x256 .f32) (b2 : FVec Ideal S256 .f32) :
    FVec Ideal S16x512x256 .f32 :=
  cleared (maxima X K W1 b1 W2 b2)

/-- The reference's maximum is the greatest of the kept features and the replacements of the dropped ones. -/
theorem maxima_isGreatest (X : FVec Ideal S16x512x20x9 .f32) (K : IVec S16x512x20 1) (W1 : FVec Ideal S9x256 .f32)
    (b1 : FVec Ideal S256 .f32) (W2 : FVec Ideal S256x256 .f32) (b2 : FVec Ideal S256 .f32) (b : Fin 16) (p : Fin 512)
    (h : Fin 256) :
    IsGreatest (Set.range fun n : Fin 20 => if K (ix3 b p n) = 1#1 then network X W1 b1 W2 b p h n + b2 (ix1 h)
      else ((-1000000000 : ℝ) : EReal)) (maxima X K W1 b1 W2 b2 (ix3 b p h)) := by
  have e : maxima X K W1 b1 W2 b2 (ix3 b p h) = Finset.univ.fold max ⊥ fun n : Fin 20 =>
      if K (ix3 b p n) = 1#1 then network X W1 b1 W2 b p h n + b2 (ix1 h) else ((-1000000000 : ℝ) : EReal) := by
    rw [← Literals.neg_eq, ← Literals.bot_eq]
    pointwise [maxima, network]
    rfl
  rw [e]
  exact fold_isGreatest _

/-- A cleared vector at an index. -/
theorem cleared_at (M : FVec Ideal S16x512x256 .f32) (b : Fin 16) (p : Fin 512) (h : Fin 256) :
    cleared M (ix3 b p h) = if M (ix3 b p h) = ((-1000000000 : ℝ) : EReal) then 0 else M (ix3 b p h) := by
  rw [← Literals.neg_eq]
  pointwise [cleared]

/-- A one-bit word `w`, read as "`w` and `P` and `Q`, or not `w` and `R`", that is set gives `P` and `Q` where `w` is set and
    `R` where it is not. -/
theorem word_cases (w : BitVec 1) (P Q R : Prop) [Decidable P] [Decidable Q] [Decidable R]
    (e : IntOp.ori (IntOp.andi w (IntOp.andi (BitVec.ofBool (decide P)) (BitVec.ofBool (decide Q))))
      (IntOp.andi (~~~w) (BitVec.ofBool (decide R))) = 1#1) : (w = 1#1 → P ∧ Q) ∧ (¬w = 1#1 → R) := by
  rcases BitVec.eq_zero_or_eq_one w with hw | hw <;> by_cases hP : P <;> by_cases hQ : Q <;> by_cases hR : R <;>
    simp [IntOp.ori, IntOp.andi, hw, hP, hQ, hR] at e ⊢

/-- What the precondition says at an index: a kept product is at least `-2^29` and its feature is above `-10^9`, a dropped
    product is below `2^29`. -/
theorem pre_at (X : FVec Ideal S16x512x20x9 .f32) (K : IVec S16x512x20 1) (W1 : FVec Ideal S9x256 .f32)
    (b1 : FVec Ideal S256 .f32) (W2 : FVec Ideal S256x256 .f32) (b2 : FVec Ideal S256 .f32)
    (hpre : Cert.Pre_apart_from_sentinels.fn (F := Ideal) X K W1 b1 W2 b2 = fun _ => 1#1) (b : Fin 16) (p : Fin 512)
    (h : Fin 256) (n : Fin 20) :
    (K (ix3 b p n) = 1#1 → ((-536870912 : ℝ) : EReal) ≤ network X W1 b1 W2 b p h n
        ∧ ((-1000000000 : ℝ) : EReal) < network X W1 b1 W2 b p h n + b2 (ix1 h))
      ∧ (¬K (ix3 b p n) = 1#1 → network X W1 b1 W2 b p h n < ((536870912 : ℝ) : EReal)) := by
  have e := congrFun hpre (ix4 b p n h)
  rw [← Literals.bound_eq, ← Literals.neg_eq, ← Literals.top_eq]
  pointwise [Cert.Pre_apart_from_sentinels.fn, Cert.Pre_apart_from_sentinels.fn_part1] at e
  pointwise [network]
  exact word_cases _ _ _ _ e

end Cert.ReferenceIdeal.Pool

end
-- ==== Proof.Value.lean ====
/- The kernel's result array after its run is the reference's result of the same arguments, under the precondition. -/
module

public import proofs.«01_k».proof.Proof.Gen.KernelIdeal.Frame
public import proofs.«01_k».proof.Proof.Block
public import proofs.«01_k».proof.Proof.Pool
public import Idealize.ShloMosaic.Lib.Pipeline.ValueKit
public import Idealize.ShloMosaic.Lib.Claim

@[expose] public section

set_option maxRecDepth 16384

noncomputable section

namespace Cert.KernelIdeal.Result

open Cert.KernelIdeal Cert.KernelIdeal.Gen Idealize.ShloMosaic Idealize.ShloMosaic.TcCoe Idealize.SL.Sem
open Cert.Pooling Cert.KernelIdeal.Block
open Cert.ReferenceIdeal.Pool (network maxima REF cleared_at maxima_isGreatest pre_at)

/-- Whatever blocks the body loads: if they read the argument arrays at polyline `(b, p)`, then under the precondition the
    stored block holds the reference's result there. -/
theorem stored_eq_REF (v0 : FVec Ideal S4x512x180 .f32) (v3 : IVec S4x512x20 32) (v9 : FVec Ideal S9x256 .f32)
    (v11 : FVec Ideal S256x256 .f32) (v13 v277 : FVec Ideal S1x256 .f32)
    (X : FVec Ideal S16x512x20x9 .f32) (K : IVec S16x512x20 1) (W1 : FVec Ideal S9x256 .f32) (b1 : FVec Ideal S256 .f32)
    (W2 : FVec Ideal S256x256 .f32) (b2 : FVec Ideal S256 .f32) (a : Fin 4) (b : Fin 16) (p : Fin 512) (h : Fin 256)
    (h0 : ∀ (j : Fin 20) (i : Fin 9), v0 (ix3 a p ⟨9 * (j : ℕ) + i, by omega⟩) = X (ix4 b p j i))
    (h3 : ∀ j : Fin 20, v3 (ix3 a p j) ≠ 0#32 ↔ K (ix3 b p j) = 1#1)
    (h9 : v9 = W1) (h11 : v11 = W2) (h13 : ∀ k : Fin 256, v13 (ix2 0 k) = b1 (ix1 k))
    (h277 : ∀ k : Fin 256, v277 (ix2 0 k) = b2 (ix1 k))
    (hpre : Cert.Pre_apart_from_sentinels.fn (F := Ideal) X K W1 b1 W2 b2 = fun _ => 1#1) :
    stored v0 v3 v9 v11 v13 v277 (ix3 a p h) = REF X K W1 b1 W2 b2 (ix3 b p h) := by
  have hg : ∀ j, product v0 v9 v11 v13 a p h j = network X W1 b1 W2 b p h j := fun j => by
    simp only [product, network, h0, h9, h11, h13]
  have hA : IsGreatest (Set.range fun j : Fin 20 => network X W1 b1 W2 b p h j
      + if K (ix3 b p j) = 1#1 then 0 else ((-1073741824 : ℝ) : EReal))
      (total v0 v3 v9 v11 v13 (ix2 ⟨(a : ℕ) * 512 + p, by omega⟩ h)) := by
    rw [total_eq]
    have e : ∀ j : Fin 20,
        candidate (k0_pay2 v0) (k0_pay3 v3) (k0_pay4 v9) (k0_pay5 v11) (k0_pay6 v13) j
            (ix2 ⟨(a : ℕ) * 512 + p, by omega⟩ h)
          = network X W1 b1 W2 b p h j + if K (ix3 b p j) = 1#1 then 0 else ((-1073741824 : ℝ) : EReal) := fun j => by
      rw [candidate_block, hg, Literals.shift_eq]
      simp only [h3]
    rw [funext e]
    exact runMax_isGreatest 19 _
  rw [stored_at, h277, Literals.bound_eq]
  refine Eq.trans ?_ (cleared_at (maxima X K W1 b1 W2 b2) b p h).symm
  exact pool_eq (fun n : Fin 20 => K (ix3 b p n) = 1#1) (network X W1 b1 W2 b p h) (b2 (ix1 h)) _ _ hA
    (maxima_isGreatest X K W1 b1 W2 b2 b p h)
    (fun n hn => (pre_at X K W1 b1 W2 b2 hpre b p h n).1 hn) (fun n hn => (pre_at X K W1 b1 W2 b2 hpre b p h n).2 hn)

/-- Where each window's block sits at each grid point. -/
theorem idx : ∀ t : Fin cfg0.N, win0_0.index t = ![t.val, 0, 0] ∧ win0_1.index t = ![t.val, 0, 0]
    ∧ win0_2.index t = ![0, 0] ∧ win0_3.index t = ![0, 0] ∧ win0_4.index t = ![0, 0] ∧ win0_5.index t = ![0, 0]
    ∧ win0_6.index t = ![t.val, 0, 0] ∧ t.val < 4 :=
  (by decide +kernel : ∀ t : Fin grid0.N, _)

variable (m : (ℓ : Loc nD τ sig) → Buf (Elt Ideal) ℓ)

/-- The kernel's first operand is the features with the points and their lanes laid out along one axis. -/
theorem features (c : Dev nD) : V m c main_call0_v0
    = shapeCast S16x512x180 (m ((c : Thread nD τ).loc main_arg0) : FVec Ideal S16x512x20x9 .f32)
        shapeCasts_S16x512x20x9_S16x512x180 := by
  entry_read
  rfl

/-- The flattened features at lane `i` of point `j`. -/
theorem features_at (X : FVec Ideal S16x512x20x9 .f32) (b : Fin 16) (p : Fin 512) (j : Fin 20) (i : Fin 9) :
    shapeCast S16x512x180 X shapeCasts_S16x512x20x9_S16x512x180 (ix3 b p ⟨9 * (j : ℕ) + i, by omega⟩)
      = X (ix4 b p j i) := by
  pointwise
  blk_ext

/-- The kernel's second operand is the mask with each bit widened to a word. -/
theorem mask (c : Dev nD) : V m c main_call0_v3
    = extui 32 (m ((c : Thread nD τ).loc main_arg1) : IVec S16x512x20 1) natLt_1_32 := by
  entry_read
  simp only [StableHlo.TRef.toBuf, StableHlo.TRef.ofBuf, cast_eq]

/-- A widened bit is a word other than zero exactly where the bit is set. -/
theorem mask_at (K : IVec S16x512x20 1) (i : S16x512x20.Idx) : extui 32 K natLt_1_32 i ≠ 0#32 ↔ K i = 1#1 := by
  change (K i).setWidth 32 ≠ 0#32 ↔ K i = 1#1
  rcases BitVec.eq_zero_or_eq_one (K i) with h | h <;> simp [h]

/-- The reference's result of the kernel's argument arrays. -/
abbrev G (c : Dev nD) : FVec Ideal S16x512x256 .f32 :=
  REF (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What the body stores at a grid point is the reference's result at the place of the stored block. -/
theorem point (c : Dev nD)
    (hpre : Cert.Pre_apart_from_sentinels.fn (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) = fun _ => 1#1)
    (t : Fin cfg0.N) (y : S4x512x256.Idx) :
    stored (iblk m c 0 t) (iblk m c 1 t) (iblk m c 2 t) (iblk m c 4 t) (iblk m c 3 t) (iblk m c 5 t) y
      = G m c (((cfg0.win 6).blk t).view.emb y) := by
  have ht : t.val < 4 := (idx t).2.2.2.2.2.2.2
  idx_vars y
  have hy : (((cfg0.win 6).blk t).view.emb (ix3 y0 y1 y2) : S16x512x256.Idx)
      = ix3 ⟨t.val * 4 + (y0 : ℕ), by omega⟩ y1 y2 := by
    blk_ext [idx t]
  rw [hy]
  refine stored_eq_REF _ _ _ _ _ _ _ _ _ _ _ _ _ _ _ _ ?_ ?_ ?_ ?_ ?_ ?_ hpre
  · intro j i
    have e : (((cfg0.win 0).blk t).view.emb (ix3 y0 y1 ⟨9 * (j : ℕ) + i, by omega⟩) : S16x512x180.Idx)
        = ix3 ⟨t.val * 4 + (y0 : ℕ), by omega⟩ y1 ⟨9 * (j : ℕ) + i, by omega⟩ := by
      blk_ext [idx t]
    change V m c main_call0_v0 (((cfg0.win 0).blk t).view.emb (ix3 y0 y1 ⟨9 * (j : ℕ) + i, by omega⟩)) = _
    rw [e, features, features_at]
  · intro j
    have e : (((cfg0.win 1).blk t).view.emb (ix3 y0 y1 j) : S16x512x20.Idx)
        = ix3 ⟨t.val * 4 + (y0 : ℕ), by omega⟩ y1 j := by
      blk_ext [idx t]
    change V m c main_call0_v3 (((cfg0.win 1).blk t).view.emb (ix3 y0 y1 j)) ≠ 0#32 ↔ _
    rw [e, mask]
    exact mask_at _ _
  · blk_ext! [iblk, V, idx t]
  · blk_ext! [iblk, V, idx t]
  · intro k
    blk_point [iblk, V, idx t]
  · intro k
    blk_point [iblk, V, idx t]

/-- The kernel's result array after the run. -/
theorem final (c : Dev nD)
    (hpre : Cert.Pre_apart_from_sentinels.fn (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) = fun _ => 1#1) :
    (dats m 0 c).arrAt 6 (cfgs 0).N = G m c := by
  refine (dats m 0 c).arrAt_eq_of_covers 6 _ (by decide +kernel) fun t _ y => ?_
  blk_simp
  rw [after0_6]
  frame_out
  simp only [k0_pay23, k0_pay24, k0_pay25, k0_pay26, k0_pay27, k0_pay28, k0_pay29, k0_pay30]
  frame_out
  exact point m c hpre t y

end Cert.KernelIdeal.Result

end
-- ==== Proof.lean ====
/- Assembles the certificate: the five claims from the frames, the kernel's result array and the reference's run. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_apart_from_sentinels
public import proofs.«01_k».proof.Proof.Value
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- From the same arguments, none of them mistaken for a sentinel, the kernel and the reference end with the same result,
    as extended reals. -/
theorem algebraic : Cert.algebraic_KernelIdeal_ReferenceIdeal_pre_apart_from_sentinels := by
  intro m g m' g' hpre hagree
  refine ⟨fun c => Cert.KernelIdeal.Result.G m c, ?_, ?_⟩
  · have hG := fun c => Cert.KernelIdeal.Result.final m c (hpre c)
    clear hpre hagree
    run_from Cert.KernelIdeal.Gen.run_main m g
    exact hG c
  · refine (θ_run Cert.ReferenceIdeal.defs _ _).mono (fun r h c => ⟨(h c).1.trans ?_, (h c).2⟩)
      (Cert.ReferenceIdeal.Value.run m' g')
    obtain ⟨e0, e1, e2, e3, e4, e5⟩ := hagree c
    rw [e0, e1, e2, e3, e4, e5]
    rfl

/-- The reference runs from any arguments, leaves them unchanged, and every counter is zero at the end. -/
theorem quiescent_reference : Cert.quiescent_ReferenceIdeal := by
  intro m g _
  exact (θ_run Cert.ReferenceIdeal.defs _ _).mono
    (fun r h => ⟨fun c => (h c).2, sem_eq_zero_of_no_sems (by decide) r.2⟩) (Cert.ReferenceIdeal.Value.run m g)

/-- The certificate: the frames of the kernel, its idealization and the reference, that the idealization keeps the kernel,
    and that kernel and reference have the same result. -/
theorem claim : Cert.Claim :=
  ⟨Cert.Kernel.Gen.facts, Cert.KernelIdeal.Gen.facts, Cert.ReferenceIdeal.Gen.facts, Cert.Pre_apart_from_sentinels.Gen.facts,
    fun m ρ _ => Cert.Kernel.Gen.frame m ρ, fun m ρ _ => Cert.KernelIdeal.Gen.frame m ρ,
    fun m ρ _ => Cert.KernelIdeal.Gen.frame m ρ, quiescent_reference, fun m g _ => quiescent_reference m g trivial, trivial,
    algebraic⟩

end Cert.Proof

end
